-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x4096x2048 : Shape := ⟨3, ![4, 4096, 2048]⟩
abbrev S2048x64 : Shape := ⟨2, ![2048, 64]⟩
abbrev S64 : Shape := ⟨1, ![64]⟩
abbrev S8192x64 : Shape := ⟨2, ![8192, 64]⟩
abbrev S16384x2048 : Shape := ⟨2, ![16384, 2048]⟩
abbrev S1024x64 : Shape := ⟨2, ![1024, 64]⟩
abbrev S1x64 : Shape := ⟨2, ![1, 64]⟩
abbrev S16384x1024 : Shape := ⟨2, ![16384, 1024]⟩
abbrev S1024x2048 : Shape := ⟨2, ![1024, 2048]⟩
abbrev S2048x1024 : Shape := ⟨2, ![2048, 1024]⟩
abbrev S1024 : Shape := ⟨1, ![1024]⟩
abbrev S1024x1 : Shape := ⟨2, ![1024, 1]⟩
abbrev S1024x1024 : Shape := ⟨2, ![1024, 1024]⟩
abbrev S4x4096x1024 : Shape := ⟨3, ![4, 4096, 1024]⟩

abbrev nBuf : Space → Nat
  | .hbm => 9
  | .vmem => 9
  | .smem => 0
  | _ => 0

abbrev bufTy : (tb : Table) → Fin (tcTables nBuf tb) → BufTy
  | .hbm, ⟨0, _⟩ => ⟨S4x4096x2048, .f32⟩
  | .hbm, ⟨1, _⟩ => ⟨S2048x64, .f32⟩
  | .hbm, ⟨2, _⟩ => ⟨S64, .f32⟩
  | .hbm, ⟨3, _⟩ => ⟨S8192x64, .f32⟩
  | .hbm, ⟨4, _⟩ => ⟨S16384x2048, .f32⟩
  | .hbm, ⟨5, _⟩ => ⟨S1024x64, .f32⟩
  | .hbm, ⟨6, _⟩ => ⟨S1x64, .f32⟩
  | .hbm, ⟨7, _⟩ => ⟨S16384x1024, .f32⟩
  | .hbm, ⟨8, _⟩ => ⟨S4x4096x1024, .f32⟩
  | .local _ .vmem, ⟨0, _⟩ => ⟨S1024x2048, .f32⟩
  | .local _ .vmem, ⟨1, _⟩ => ⟨S1024x2048, .f32⟩
  | .local _ .vmem, ⟨2, _⟩ => ⟨S1024x2048, .f32⟩
  | .local _ .vmem, ⟨3, _⟩ => ⟨S1024x2048, .f32⟩
  | .local _ .vmem, ⟨4, _⟩ => ⟨S2048x64, .f32⟩
  | .local _ .vmem, ⟨5, _⟩ => ⟨S1x64, .f32⟩
  | .local _ .vmem, ⟨6, _⟩ => ⟨S1024x64, .f32⟩
  | .local _ .vmem, ⟨7, _⟩ => ⟨S2048x1024, .f32⟩
  | .local _ .vmem, ⟨8, _⟩ => ⟨S2048x1024, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S4x4096x2048 : Shape := ⟨3, ![4, 4096, 2048]⟩
abbrev S2048x64 : Shape := ⟨2, ![2048, 64]⟩
abbrev S64 : Shape := ⟨1, ![64]⟩
abbrev S8192x64 : Shape := ⟨2, ![8192, 64]⟩
abbrev S4x4096x64 : Shape := ⟨3, ![4, 4096, 64]⟩
abbrev S1x1x64 : Shape := ⟨3, ![1, 1, 64]⟩
abbrev S_ : Shape := ⟨0, ![]⟩
abbrev S8192 : Shape := ⟨1, ![8192]⟩
abbrev S8192x1 : Shape := ⟨2, ![8192, 1]⟩
abbrev S4x4096x8192 : Shape := ⟨3, ![4, 4096, 8192]⟩
abbrev S4x4096x1024 : Shape := ⟨3, ![4, 4096, 1024]⟩

abbrev nBuf : Space → Nat
  | .hbm => 21
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048x64, .f32⟩
  | .hbm, ⟨2, _⟩ => ⟨S64, .f32⟩
  | .hbm, ⟨3, _⟩ => ⟨S8192x64, .f32⟩
  | .hbm, ⟨4, _⟩ => ⟨S4x4096x64, .f32⟩
  | .hbm, ⟨5, _⟩ => ⟨S1x1x64, .f32⟩
  | .hbm, ⟨6, _⟩ => ⟨S4x4096x64, .f32⟩
  | .hbm, ⟨7, _⟩ => ⟨S4x4096x64, .f32⟩
  | .hbm, ⟨8, _⟩ => ⟨S8192x64, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x64, .f32⟩
  | .hbm, ⟨18, _⟩ => ⟨S8192x64, .f32⟩
  | .hbm, ⟨19, _⟩ => ⟨S4x4096x8192, .f32⟩
  | .hbm, ⟨20, _⟩ => ⟨S4x4096x1024, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_v0 : Ref sig .tc := ⟨.hbm, 8, rfl⟩
abbrev main_call0_cst : Ref sig .tc := ⟨.hbm, 9, rfl⟩
abbrev main_call0_v1 : Ref sig .tc := ⟨.hbm, 10, rfl⟩
abbrev main_call0_v2 : Ref sig .tc := ⟨.hbm, 11, rfl⟩
abbrev main_v4 : Ref sig .tc := ⟨.hbm, 12, rfl⟩
abbrev main_cst : Ref sig .tc := ⟨.hbm, 13, rfl⟩
abbrev main_call1_v0 : Ref sig .tc := ⟨.hbm, 14, rfl⟩
abbrev main_call1_v1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩

abbrev nD : Nat := 1
abbrev τ : Topo := Topo.v7x

variable {F : FTy → Type} [FloatOps F]
-- ==== Proof.Score.lean ====
/-
  The mathematics both programs compute: one logit. A token's row is projected onto the neuron space (a product
  with the projection's matrix, plus its bias), and the projection is multiplied with one row of the embedding table
  after that row is divided by its Euclidean norm, the norm being at least the floor that both programs name by the
  word 0x2B8CBCCC.
-/
module

public import Idealize.ShloMosaic.PureOps.Ideal

@[expose] public section

noncomputable section

namespace Cert.Score

open Idealize.ShloMosaic

/-- One coordinate of a token's projection: the product of the token's row with one column of the matrix, plus that
    column's bias. -/
def proj (row col : Fin 2048 → EReal) (bias : EReal) : EReal := (∑ k, row k * col k) + bias

/-- The Euclidean norm of a table row, raised to the floor. -/
def rowNorm (e : Fin 64 → EReal) : EReal := max (Ideal.sqrt (∑ d, e d * e d)) (Ideal.ofBits .f32 0x2B8CBCCC#32)

/-- The logit of a token against a neuron: the token's projection times the neuron's row divided by its norm. -/
def score (row : Fin 2048 → EReal) (w : Fin 2048 → Fin 64 → EReal) (b e : Fin 64 → EReal) : EReal :=
  ∑ d, proj row (fun k => w k d) (b d) * Ideal.div (e d) (rowNorm e)

end Cert.Score

end
-- ==== Proof.Payload.lean ====
/-
  What one grid point computes, element by element. The body stores two blocks, one for each half of its tokens; each
  is, at token `r` and neuron `n`, the logit `Score.score` of that half's row `r` against row `n` of the table.
-/
module

public import proofs.«01_k».proof.Proof.Score
public import proofs.«01_k».proof.Proof.Gen.KernelIdeal.Skeleton
public import Idealize.ShloMosaic.Lib.Pointwise

@[expose] public section

set_option maxRecDepth 16384

noncomputable section

namespace Cert.KernelIdeal.Value

open Cert.KernelIdeal Cert.KernelIdeal.Gen Cert.Score
open Idealize.ShloMosaic

/-- The first stored block, at token `r` of the first half and neuron `n`. -/
theorem first_half_apply (w : Vec Ideal S2048x64 .f32) (b : Vec Ideal S1x64 .f32) (e : Vec Ideal S1024x64 .f32)
    (x : Vec Ideal S1024x2048 .f32) (r n : Fin 1024) :
    k0_pay3 (F := Ideal) w b e x (ix2 r n)
      = score (fun k => x (ix2 r k)) (fun k d => w (ix2 k d)) (fun d => b (ix2 0 d)) (fun d => e (ix2 n d)) := by
  pointwise [k0_pay3, k0_pay2, k0_pay1, score, proj, rowNorm]

/-- The second stored block, at token `r` of the second half and neuron `n`. -/
theorem second_half_apply (w : Vec Ideal S2048x64 .f32) (b : Vec Ideal S1x64 .f32) (e : Vec Ideal S1024x64 .f32)
    (x : Vec Ideal S1024x2048 .f32) (r n : Fin 1024) :
    k0_pay4 (F := Ideal) w b e x (ix2 r n)
      = score (fun k => x (ix2 r k)) (fun k d => w (ix2 k d)) (fun d => b (ix2 0 d)) (fun d => e (ix2 n d)) := by
  pointwise [k0_pay4, k0_pay2, k0_pay1, score, proj, rowNorm]

end Cert.KernelIdeal.Value

end
-- ==== Proof.KernelValue.lean ====
/-
  What the kernel's array holds after the run, element by element: the region's array, of 16384 tokens by 1024 neurons,
  holds at token `r` and neuron `n` the logit of that token's row against row `n` of the table, and @main's last line
  reads that array in the shape 4 by 4096 by 1024.
-/
module

public import proofs.«01_k».proof.Proof.Payload
public import proofs.«01_k».proof.Proof.Gen.KernelIdeal.Frame
public import Idealize.ShloMosaic.Lib.Pipeline.ValueKit

@[expose] public section

set_option maxRecDepth 16384

noncomputable section

namespace Cert.KernelIdeal.Value

open Cert.KernelIdeal Cert.KernelIdeal.Gen Cert.Score
open Idealize.ShloMosaic Idealize.ShloMosaic.TcCoe Idealize.SL.Sem
open Idealize.ShloMosaic.Pipeline (Dat)

/-- The logit of token `r`, counted over all sequences of 4096 tokens, against neuron `n`, from the four arguments. -/
def logitAt (X : FVec Ideal S4x4096x2048 .f32) (W : FVec Ideal S2048x64 .f32) (b : FVec Ideal S64 .f32)
    (E : FVec Ideal S8192x64 .f32) (r : Fin 16384) (n : Fin 1024) : EReal :=
  score (fun k => X (ix3 ⟨r / 4096, by omega⟩ ⟨r % 4096, by omega⟩ k)) (fun k d => W (ix2 k d)) (fun d => b (ix1 d))
    (fun d => E (ix2 ⟨n, by omega⟩ d))

variable (m : (ℓ : Loc nD τ sig) → Buf (Elt Ideal) ℓ)

/-- Where each window's block lies at a grid point: the two halves of the tokens are the even and the odd blocks, the
    matrix, the bias and the table are read whole, and the result's block is the point's own. -/
theorem idx : ∀ t : Fin cfg0.N, win0_0.index t = ![2 * t.val, 0] ∧ win0_1.index t = ![2 * t.val + 1, 0]
    ∧ win0_2.index t = ![0, 0] ∧ win0_3.index t = ![0, 0] ∧ win0_4.index t = ![0, 0] ∧ win0_5.index t = ![t.val, 0] :=
  (by decide +kernel : ∀ t : Fin grid0.N, _)

/-- What the body leaves in the result's block, from the five blocks it reads: rows below 1024 come from the first
    half of the tokens, the others from the second half. -/
theorem block_apply (x0 x1 : Vec Ideal S1024x2048 .f32) (w : Vec Ideal S2048x64 .f32) (b : Vec Ideal S1x64 .f32)
    (e : Vec Ideal S1024x64 .f32) (y : S2048x1024.Idx) (row : Fin 2048 → EReal) (n : Fin 1024) (hn : (n : ℕ) = y 1)
    (lo : ∀ r : Fin 1024, (y 0 : ℕ) = r → ∀ k, x0 (ix2 r k) = row k)
    (hi : ∀ r : Fin 1024, (y 0 : ℕ) = 1024 + r → ∀ k, x1 (ix2 r k) = row k) :
    out0_5 (F := Ideal) x0 x1 w b e y
      = score row (fun k d => w (ix2 k d)) (fun d => b (ix2 0 d)) (fun d => e (ix2 n d)) := by
  have hw : View.ld w r0_0 = w := View.ld_unit_lit _ w (by decide)
  have hb : View.ld b r0_1 = b := View.ld_unit_lit _ b (by decide)
  have he : View.ld e r0_2 = e := View.ld_unit_lit _ e (by decide)
  unfold out0_5
  canon_tiles x h
  · obtain ⟨r, rfl⟩ : ∃ r : Fin 1024, x = ix2 r n := ⟨x 0, by
      funext a; fin_cases a
      · rfl
      · exact Fin.ext (hn.trans h1).symm⟩
    rw [second_half_apply]
    rw [hw, hb, he, View.ld_unit_lit _ x1 (by decide)]
    rw [funext (hi r h0)]
  · obtain ⟨r, rfl⟩ : ∃ r : Fin 1024, x = ix2 r n := ⟨x 0, by
      funext a; fin_cases a
      · rfl
      · exact Fin.ext (hn.trans h1).symm⟩
    rw [first_half_apply]
    rw [hw, hb, he, View.ld_unit_lit _ x0 (by decide)]
    rw [funext (lo r h0)]

/-- The flattened tokens, as the region finds them. -/
theorem entry_x (c : Dev nD) (r : Fin 16384) (k : Fin 2048) : V m c main_v0 (ix2 r k)
    = m (c.tc.loc main_arg0) (ix3 ⟨r / 4096, by omega⟩ ⟨r % 4096, by omega⟩ k) := by
  simp only [V, V0, hostOps0, List.flatten_cons, List.flatten_nil, List.append_nil]
  after_results
  pointwise

/-- The table's first 1024 rows, as the region finds them. -/
theorem entry_e (c : Dev nD) (n : Fin 1024) (d : Fin 64) : V m c main_v1 (ix2 n d)
    = m (c.tc.loc main_arg3) (ix2 ⟨n, by omega⟩ d) := by
  simp only [V, V0, hostOps0, List.flatten_cons, List.flatten_nil, List.append_nil]
  after_results
  pointwise

/-- The bias as a row, as the region finds it. -/
theorem entry_b (c : Dev nD) (d : Fin 64) : V m c main_v2 (ix2 0 d) = m (c.tc.loc main_arg2) (ix1 d) := by
  simp only [V, V0, hostOps0, List.flatten_cons, List.flatten_nil, List.append_nil]
  after_results
  pointwise

/-- What the region's array holds after the run. -/
def flat (c : Dev nD) : FVec Ideal S16384x1024 .f32 := fun j =>
  logitAt (m (c.tc.loc main_arg0)) (m (c.tc.loc main_arg1)) (m (c.tc.loc main_arg2)) (m (c.tc.loc main_arg3)) (j 0) (j 1)

/-- The region's array after its eight points. -/
theorem final (c : Dev nD) : (dats m 0 c).arrAt 5 (cfgs 0).N = flat m c := by
  refine (dats m 0 c).arrAt_eq_of_covers 5 _ (by decide +kernel) fun t _ y => ?_
  blk_simp
  rw [after0_5]
  have ht : t.val < 8 := t.isLt
  have h5 := (idx t).2.2.2.2.2
  have hy0 : (y 0 : ℕ) < 2048 := (y 0).isLt
  have hy1 : (y 1 : ℕ) < 1024 := (y 1).isLt
  rw [block_apply _ _ _ _ _ y
    (fun k => m (c.tc.loc main_arg0) (ix3 ⟨(t.val * 2048 + y 0) / 4096, by omega⟩ ⟨(t.val * 2048 + y 0) % 4096, by omega⟩ k))
    ⟨y 1, hy1⟩ rfl
    (fun r hr k => ?_) (fun r hr k => ?_)]
  · have e2 : ∀ k d, iblk m c 2 t (ix2 k d) = m (c.tc.loc main_arg1) (ix2 k d) := fun k d => by
      blk_ext [iblk, V_main_arg1, idx t]
    have e3 : ∀ d, iblk m c 3 t (ix2 0 d) = m (c.tc.loc main_arg2) (ix1 d) := fun d =>
      Eq.trans (by blk_ext [iblk, idx t]) (entry_b m c d)
    have e4 : ∀ d, iblk m c 4 t (ix2 ⟨y 1, hy1⟩ d) = m (c.tc.loc main_arg3) (ix2 ⟨y 1, by omega⟩ d) := fun d =>
      Eq.trans (by blk_ext [iblk, idx t]) (entry_e m c ⟨y 1, hy1⟩ d)
    simp only [e2, e3, e4]
    have p0 : (((win0_5.blk t).view.emb y) 0 : ℕ) = t.val * 2048 + y 0 := by blk_simp [idx t]
    have p1 : (((win0_5.blk t).view.emb y) 1 : ℕ) = y 1 := by blk_simp [idx t]
    unfold flat logitAt
    simp only [p0, p1]
  · refine Eq.trans ?_ ((entry_x m c ⟨t.val * 2048 + y 0, by omega⟩ k))
    blk_ext [iblk, idx t]
  · refine Eq.trans ?_ ((entry_x m c ⟨t.val * 2048 + y 0, by omega⟩ k))
    blk_ext [iblk, idx t]

/-- @main's result is the region's array in the shape 4 by 4096 by 1024. -/
theorem tail (c : Dev nD) : Pipeline.afterTail₀ cfgs (dats m) 0 (V0 m) [hostOps1] c main_v4
    = shapeCast S4x4096x1024 (flat m c) shapeCasts_S16384x1024_S4x4096x1024 := by
  unfold Pipeline.afterTail₀
  rw [← final m c, ← Dat.withArrays_arrAt (dats m 0 c) sharedIn0 (V0 m c) (A_eq m c) 5]
  simp only [hostOps1, List.flatten_cons, List.flatten_nil, List.append_nil]
  after_results
  rfl

/-- @main's result at token `(i, s)` and neuron `n`: the logit of token `i * 4096 + s`. -/
theorem result_apply (c : Dev nD) (i : Fin 4) (s : Fin 4096) (n : Fin 1024) :
    shapeCast S4x4096x1024 (flat m c) shapeCasts_S16384x1024_S4x4096x1024 (ix3 i s n)
      = score (fun k => m (c.tc.loc main_arg0) (ix3 i s k)) (fun k d => m (c.tc.loc main_arg1) (ix2 k d))
          (fun d => m (c.tc.loc main_arg2) (ix1 d)) (fun d => m (c.tc.loc main_arg3) (ix2 ⟨n, by omega⟩ d)) := by
  have hq : (i.val * 4096 + s.val) / 4096 = i.val := by omega
  have hr : (i.val * 4096 + s.val) % 4096 = s.val := by omega
  pointwise
  change logitAt _ _ _ _ (⟨i.val * 4096 + s.val, by omega⟩ : Fin 16384) n = _
  simp only [logitAt, hq, hr, Fin.eta]

end Cert.KernelIdeal.Value

end
-- ==== Proof.RefValue.lean ====
/-
  What the reference computes, element by element: its composed term, read at token `(i, s)` and neuron `n`, is the
  logit `Score.score` of that token's row against row `n` of the table.
-/
module

public import proofs.«01_k».proof.Proof.Score
public import proofs.«01_k».proof.Proof.Gen.ReferenceIdeal.Run
public import Idealize.ShloMosaic.Lib.Pointwise

@[expose] public section

set_option maxRecDepth 16384

noncomputable section

namespace Cert.ReferenceIdeal.Value

open Cert.ReferenceIdeal Cert.ReferenceIdeal.Gen Cert.Score
open Idealize.ShloMosaic

/-- The reference's result as a function of its four arguments. -/
def logits (X : FVec Ideal S4x4096x2048 .f32) (W : FVec Ideal S2048x64 .f32) (b : FVec Ideal S64 .f32)
    (E : FVec Ideal S8192x64 .f32) : FVec Ideal S4x4096x1024 .f32 :=
  extractStridedSlice S4x4096x1024 ![0, 0, 0] (Host.dotGeneral dot_S4x4096x64_S8192x64_S4x4096x8192_2_1_01_0_n_n none (addf (Host.dotGeneral dot_S4x4096x2048_S2048x64_S4x4096x64_2_0_01_1_n_n none X W) (broadcastInDim S4x4096x64 ![0, 1, 2] bcast_S1x1x64_S4x4096x64_0_1_2 (broadcastInDim S1x1x64 ![2] bcast_S64_S1x1x64_2 b))) (Host.divf E (broadcastInDim S8192x64 ![0, 1] bcast_S8192x1_S8192x64_0_1 (maximumf (broadcastInDim S8192x1 ![] bcast_S_S8192x1 (constant S_ .f32 0x2B8CBCCC#32)) (Host.sqrt (broadcastInDim S8192x1 ![0] bcast_S8192_S8192x1_0 (Host.reduceAdd (mulf E E) (constant S_ .f32 0x00000000#32) reducesTo_S8192x64_S8192_d1 h_S_))))))) slices_S4x4096x8192_S4x4096x1024_0_0_0

/-- The reference's result at token `(i, s)` and neuron `n`. -/
theorem logits_apply (X : FVec Ideal S4x4096x2048 .f32) (W : FVec Ideal S2048x64 .f32) (b : FVec Ideal S64 .f32)
    (E : FVec Ideal S8192x64 .f32) (i : Fin 4) (s : Fin 4096) (n : Fin 1024) :
    logits X W b E (ix3 i s n)
      = score (fun k => X (ix3 i s k)) (fun k d => W (ix2 k d)) (fun d => b (ix1 d))
          (fun d => E (ix2 ⟨n, by omega⟩ d)) := by
  pointwise [logits, score, proj, rowNorm]
  simp only [max_comm (Ideal.ofBits .f32 0x2B8CBCCC#32)]

end Cert.ReferenceIdeal.Value

end
-- ==== Proof.lean ====
/-
  The proof of `Cert.Claim`: the frames of the kernel, of its ideal form and of the reference, that the ideal form says
  what the kernel says, and that the ideal kernel and the reference compute the same logits.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelValue
public import proofs.«01_k».proof.Proof.RefValue
public import Idealize.ShloMosaic.Lib.Claim
public import Idealize.ShloMosaic.Adequacy
public import Idealize.ShloMosaic.Init

@[expose] public section

noncomputable section

namespace Cert.Proof

open Idealize.ShloMosaic Idealize.SL.Sem

/-- From arguments that agree, the ideal kernel and the reference end with the same result, element by element: both
    hold at token `(i, s)` and neuron `n` the logit `Cert.Score.score`. -/
theorem algebraic :
    @Cert.algebraic_KernelIdeal_ReferenceIdeal Cert.KernelIdeal.Gen.facts Cert.ReferenceIdeal.Gen.facts := by
  pair_intro
  · run_from Cert.KernelIdeal.Gen.run_main m g
    · exact Cert.KernelIdeal.Gen.W_main_arg0 m _ c
    · exact Cert.KernelIdeal.Gen.W_main_arg2 m _ c
    · exact Cert.KernelIdeal.Gen.W_main_arg3 m _ c
  · run_from Cert.ReferenceIdeal.Value.run m' g'
    refine Eq.trans (b := Cert.ReferenceIdeal.Value.logits _ _ _ _) rfl ?_
    rw [Cert.KernelIdeal.Value.tail m]
    funext j
    obtain ⟨i, s, n, rfl⟩ : ∃ (i : Fin 4) (s : Fin 4096) (n : Fin 1024), j = ix3 i s n :=
      ⟨j 0, j 1, j 2, by funext a; fin_cases a <;> rfl⟩
    exact (Cert.ReferenceIdeal.Value.logits_apply _ _ _ _ i s n).trans
      (Cert.KernelIdeal.Value.result_apply m _ i s n).symm

/-- The reference leaves its arguments as they were and every semaphore counter at zero. -/
theorem refQuiet : @Cert.quiescent_ReferenceIdeal Cert.ReferenceIdeal.Gen.facts := by
  intro m ρ _
  exact (θ_run Cert.ReferenceIdeal.defs _ _).mono
    (fun r h => ⟨fun c => (h c).2, Idealize.ShloMosaic.sem_eq_zero_of_no_sems (by decide) r.2⟩)
    (Cert.ReferenceIdeal.Value.run m ρ)

/-- The whole claim. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, refQuiet, trivial, algebraic⟩

end Cert.Proof

end
